-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs : Cert.Pre_inputs.Facts),
    quiescent_Kernel (hKernel := hKernel)
    ∧ quiescent_KernelIdeal (hKernelIdeal := hKernelIdeal)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_inputs.lean ====
abbrev S32x64x64 : Shape := ⟨3, ![32, 64, 64]⟩
abbrev S4096x1100 : Shape := ⟨2, ![4096, 1100]⟩
abbrev S256x1100 : Shape := ⟨2, ![256, 1100]⟩
abbrev S_ : Shape := ⟨0, ![]⟩

class Facts : Prop where
  bcast_S_S256x1100 : S_.BroadcastsInDim S256x1100 (![] : Fin 0 → Fin S256x1100.rank)
  reducesTo_S256x1100_S_d0_1 : S256x1100.ReducesTo [0, 1] S_
  h_S_ : 0 < S_.numel
  bcast_S_S4096x1100 : S_.BroadcastsInDim S4096x1100 (![] : Fin 0 → Fin S4096x1100.rank)
  reducesTo_S4096x1100_S_d0_1 : S4096x1100.ReducesTo [0, 1] S_

variable [Facts]

def fn_where {F : FTy → Type} [FloatOps F] (arg0 : IVec S256x1100 1) (arg1 : FVec F S_ .f32) (arg2 : FVec F S_ .f32) : FVec F S256x1100 .f32 :=
  let v0 : FVec F S256x1100 .f32 := broadcastInDim S256x1100 ![] bcast_S_S256x1100 arg1
  let v1 : FVec F S256x1100 .f32 := broadcastInDim S256x1100 ![] bcast_S_S256x1100 arg2
  let v2 : FVec F S256x1100 .f32 := select arg0 v0 v1
  v2

def fn_part1 {F : FTy → Type} [FloatOps F] (main_v14 : IVec S_ 1) (main_v15 : FVec F S4096x1100 .f32) (main_cst_5 : FVec F S_ .f32) : IVec S_ 1 :=
  let main_v16 : FVec F S4096x1100 .f32 := broadcastInDim S4096x1100 ![] bcast_S_S4096x1100 main_cst_5
  let main_v17 : IVec S4096x1100 1 := cmpf .olt main_v15 main_v16
  let main_c_6 : IVec S_ 1 := constantI S_ 1 1#1
  let main_v18 : IVec S_ 1 := (fun x v => Host.reduce IntOp.andi x v reducesTo_S4096x1100_S_d0_1 h_S_) main_v17 main_c_6
  let main_v19 : IVec S_ 1 := andi main_v14 main_v18
  main_v19

def fn {F : FTy → Type} [FloatOps F] (main_arg0 : IVec S32x64x64 32) (main_arg1 : FVec F S4096x1100 .f32) (main_arg2 : FVec F S256x1100 .f32) : IVec S_ 1 :=
  let main_v0 : IVec S256x1100 32 := iotaInDim S256x1100 32 0
  let main_v1 : IVec S256x1100 32 := iotaInDim S256x1100 32 1
  let main_c : IVec S_ 32 := constantI S_ 32 180#32
  let main_v2 : IVec S256x1100 32 := broadcastInDim S256x1100 ![] bcast_S_S256x1100 main_c
  let main_v3 : IVec S256x1100 32 := addi main_v1 main_v2
  let main_c_0 : IVec S_ 32 := constantI S_ 32 255#32
  let main_v4 : IVec S256x1100 32 := broadcastInDim S256x1100 ![] bcast_S_S256x1100 main_c_0
  let main_v5 : IVec S256x1100 32 := andi main_v3 main_v4
  let main_c_1 : IVec S_ 32 := constantI S_ 32 256#32
  let main_v6 : IVec S256x1100 32 := broadcastInDim S256x1100 ![] bcast_S_S256x1100 main_c_1
  let main_v7 : IVec S256x1100 32 := subi main_v6 main_v0
  let main_v8 : IVec S256x1100 1 := cmpi .sge main_v5 main_v7
  let main_c_2 : IVec S_ 32 := constantI S_ 32 255#32
  let main_v9 : IVec S256x1100 32 := broadcastInDim S256x1100 ![] bcast_S_S256x1100 main_c_2
  let main_v10 : IVec S256x1100 1 := cmpi .eq main_v0 main_v9
  let main_v11 : IVec S256x1100 1 := ori main_v8 main_v10
  let main_cst : FVec F S_ .f32 := constant S_ .f32 0x3F800000#32
  let main_cst_3 : FVec F S_ .f32 := constant S_ .f32 0xBF800000#32
  let main_v12 : FVec F S256x1100 .f32 := fn_where (F := F) main_v11 main_cst main_cst_3
  let main_v13 : IVec S256x1100 1 := cmpf .oeq main_arg2 main_v12
  let main_c_4 : IVec S_ 1 := constantI S_ 1 1#1
  let main_v14 : IVec S_ 1 := (fun x v => Host.reduce IntOp.andi x v reducesTo_S256x1100_S_d0_1 h_S_) main_v13 main_c_4
  let main_v15 : FVec F S4096x1100 .f32 := Host.absf main_arg1
  let main_cst_5 : FVec F S_ .f32 := constant S_ .f32 0x7F800000#32
  fn_part1 (F := F) main_v14 main_v15 main_cst_5
-- ==== Kernel.lean ====
abbrev S32x64x64 : Shape := ⟨3, ![32, 64, 64]⟩
abbrev S4096x1100 : Shape := ⟨2, ![4096, 1100]⟩
abbrev S256x1100 : Shape := ⟨2, ![256, 1100]⟩
abbrev S2048 : Shape := ⟨1, ![2048]⟩
abbrev S16x16x128 : Shape := ⟨3, ![16, 16, 128]⟩
abbrev S1100 : Shape := ⟨1, ![1100]⟩
abbrev S32x1x4096 : Shape := ⟨3, ![32, 1, 4096]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S4096x2048 : Shape := ⟨2, ![4096, 2048]⟩
abbrev S16x32x128 : Shape := ⟨3, ![16, 32, 128]⟩
abbrev S32x16x128 : Shape := ⟨3, ![32, 16, 128]⟩
abbrev S32x2048 : Shape := ⟨2, ![32, 2048]⟩
abbrev S1100x1 : Shape := ⟨2, ![1100, 1]⟩
abbrev S32x1100 : Shape := ⟨2, ![32, 1100]⟩
abbrev S4096x128 : Shape := ⟨2, ![4096, 128]⟩
abbrev S1x16x128 : Shape := ⟨3, ![1, 16, 128]⟩
abbrev S1x32x128 : Shape := ⟨3, ![1, 32, 128]⟩
abbrev S32x4096 : Shape := ⟨2, ![32, 4096]⟩
abbrev S32x16x4096 : Shape := ⟨3, ![32, 16, 4096]⟩
abbrev S512x4096 : Shape := ⟨2, ![512, 4096]⟩
abbrev S512x128 : Shape := ⟨2, ![512, 128]⟩
abbrev S32x128 : Shape := ⟨2, ![32, 128]⟩
abbrev S128 : Shape := ⟨1, ![128]⟩
abbrev S1x128 : Shape := ⟨2, ![1, 128]⟩

abbrev nBuf : Space → Nat
  | .hbm => 57
  | .vmem => 7
  | .smem => 0
  | _ => 0

abbrev bufTy : (tb : Table) → Fin (tcTables nBuf tb) → BufTy
  | .hbm, ⟨0, _⟩ => ⟨S32x64x64, .i32⟩
  | .hbm, ⟨1, _⟩ => ⟨S4096x1100, .f32⟩
  | .hbm, ⟨2, _⟩ => ⟨S256x1100, .f32⟩
  | .hbm, ⟨3, _⟩ => ⟨S2048, .i32⟩
  | .hbm, ⟨4, _⟩ => ⟨S16x16x128, .f32⟩
  | .hbm, ⟨5, _⟩ => ⟨S1100, .i32⟩
  | .hbm, ⟨6, _⟩ => ⟨S32x1x4096, .i32⟩
  | .hbm, ⟨7, _⟩ => ⟨S_, .i32⟩
  | .hbm, ⟨8, _⟩ => ⟨S2048, .i32⟩
  | .hbm, ⟨9, _⟩ => ⟨S2048, .i1⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S2048x1, .i32⟩
  | .hbm, ⟨15, _⟩ => ⟨S1, .i32⟩
  | .hbm, ⟨16, _⟩ => ⟨S_, .i32⟩
  | .hbm, ⟨17, _⟩ => ⟨S2048x1, .i32⟩
  | .hbm, ⟨18, _⟩ => ⟨S2048x1, .i1⟩
  | .hbm, ⟨19, _⟩ => ⟨S1x1, .i32⟩
  | .hbm, ⟨20, _⟩ => ⟨S2048x1, .i32⟩
  | .hbm, ⟨21, _⟩ => ⟨S2048x1, .i1⟩
  | .hbm, ⟨22, _⟩ => ⟨S2048x1, .i1⟩
  | .hbm, ⟨23, _⟩ => ⟨S_, .i1⟩
  | .hbm, ⟨24, _⟩ => ⟨S2048, .i1⟩
  | .hbm, ⟨25, _⟩ => ⟨S4096x2048, .f32⟩
  | .hbm, ⟨26, _⟩ => ⟨S4096x2048, .i1⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .bf16⟩
  | .hbm, ⟨31, _⟩ => ⟨S16x32x128, .f32⟩
  | .hbm, ⟨32, _⟩ => ⟨S32x16x128, .f32⟩
  | .hbm, ⟨33, _⟩ => ⟨S32x2048, .f32⟩
  | .hbm, ⟨34, _⟩ => ⟨S_, .i32⟩
  | .hbm, ⟨35, _⟩ => ⟨S1100, .i32⟩
  | .hbm, ⟨36, _⟩ => ⟨S1100, .i1⟩
  | .hbm, ⟨37, _⟩ => ⟨S_, .i32⟩
  | .hbm, ⟨38, _⟩ => ⟨S1100, .i32⟩
  | .hbm, ⟨39, _⟩ => ⟨S1100, .i32⟩
  | .hbm, ⟨40, _⟩ => ⟨S1100, .i32⟩
  | .hbm, ⟨41, _⟩ => ⟨S1100x1, .i32⟩
  | .hbm, ⟨42, _⟩ => ⟨S1, .i32⟩
  | .hbm, ⟨43, _⟩ => ⟨S_, .i32⟩
  | .hbm, ⟨44, _⟩ => ⟨S1100x1, .i32⟩
  | .hbm, ⟨45, _⟩ => ⟨S1100x1, .i1⟩
  | .hbm, ⟨46, _⟩ => ⟨S1x1, .i32⟩
  | .hbm, ⟨47, _⟩ => ⟨S1100x1, .i32⟩
  | .hbm, ⟨48, _⟩ => ⟨S1100x1, .i1⟩
  | .hbm, ⟨49, _⟩ => ⟨S1100x1, .i1⟩
  | .hbm, ⟨50, _⟩ => ⟨S_, .i1⟩
  | .hbm, ⟨51, _⟩ => ⟨S1100, .i1⟩
  | .hbm, ⟨52, _⟩ => ⟨S32x1100, .f32⟩
  | .hbm, ⟨53, _⟩ => ⟨S32x1100, .i1⟩
  | .hbm, ⟨54, _⟩ => ⟨S_, .f32⟩
  | .hbm, ⟨55, _⟩ => ⟨S32x1100, .f32⟩
  | .hbm, ⟨56, _⟩ => ⟨S32x1100, .f32⟩
  | .local _ .vmem, ⟨0, _⟩ => ⟨S32x1x4096, .i32⟩
  | .local _ .vmem, ⟨1, _⟩ => ⟨S4096x128, .bf16⟩
  | .local _ .vmem, ⟨2, _⟩ => ⟨S4096x128, .bf16⟩
  | .local _ .vmem, ⟨3, _⟩ => ⟨S1x16x128, .f32⟩
  | .local _ .vmem, ⟨4, _⟩ => ⟨S1x16x128, .f32⟩
  | .local _ .vmem, ⟨5, _⟩ => ⟨S1x32x128, .f32⟩
  | .local _ .vmem, ⟨6, _⟩ => ⟨S1x32x128, .f32⟩
  | _, _ => ⟨S32x64x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_cst : Ref sig .tc := ⟨.hbm, 4, rfl⟩
abbrev main_call0_c_0 : Ref sig .tc := ⟨.hbm, 5, rfl⟩
abbrev main_call0_v0 : Ref sig .tc := ⟨.hbm, 6, rfl⟩
abbrev main_call0_call0_c : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_c_0 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_c_1 : Ref sig .tc := ⟨.hbm, 15, rfl⟩
abbrev main_call0_call0_c_2 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_call0_c_3 : Ref sig .tc := ⟨.hbm, 23, rfl⟩
abbrev main_call0_call0_v12 : Ref sig .tc := ⟨.hbm, 24, rfl⟩
abbrev main_call0_call0_v13 : Ref sig .tc := ⟨.hbm, 25, rfl⟩
abbrev main_call0_call0_v14 : Ref sig .tc := ⟨.hbm, 26, rfl⟩
abbrev main_call0_call0_cst : Ref sig .tc := ⟨.hbm, 27, rfl⟩
abbrev main_call0_call0_v15 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_call1_c : Ref sig .tc := ⟨.hbm, 34, rfl⟩
abbrev main_call0_call1_v0 : Ref sig .tc := ⟨.hbm, 35, rfl⟩
abbrev main_call0_call1_v1 : Ref sig .tc := ⟨.hbm, 36, rfl⟩
abbrev main_call0_call1_c_0 : Ref sig .tc := ⟨.hbm, 37, rfl⟩
abbrev main_call0_call1_v2 : Ref sig .tc := ⟨.hbm, 38, rfl⟩
abbrev main_call0_call1_v3 : Ref sig .tc := ⟨.hbm, 39, rfl⟩
abbrev main_call0_call1_v4 : Ref sig .tc := ⟨.hbm, 40, rfl⟩
abbrev main_call0_call1_v5 : Ref sig .tc := ⟨.hbm, 41, rfl⟩
abbrev main_call0_call1_c_1 : Ref sig .tc := ⟨.hbm, 42, rfl⟩
abbrev main_call0_call1_c_2 : Ref sig .tc := ⟨.hbm, 43, rfl⟩
abbrev main_call0_call1_v6 : Ref sig .tc := ⟨.hbm, 44, rfl⟩
abbrev main_call0_call1_v7 : Ref sig .tc := ⟨.hbm, 45, rfl⟩
abbrev main_call0_call1_v8 : Ref sig .tc := ⟨.hbm, 46, rfl⟩
abbrev main_call0_call1_v9 : Ref sig .tc := ⟨.hbm, 47, rfl⟩
abbrev main_call0_call1_v10 : Ref sig .tc := ⟨.hbm, 48, rfl⟩
abbrev main_call0_call1_v11 : Ref sig .tc := ⟨.hbm, 49, rfl⟩
abbrev main_call0_call1_c_3 : Ref sig .tc := ⟨.hbm, 50, rfl⟩
abbrev main_call0_call1_v12 : Ref sig .tc := ⟨.hbm, 51, rfl⟩
abbrev main_call0_call1_v13 : Ref sig .tc := ⟨.hbm, 52, rfl⟩
abbrev main_call0_call1_v14 : Ref sig .tc := ⟨.hbm, 53, rfl⟩
abbrev main_call0_call1_cst : Ref sig .tc := ⟨.hbm, 54, rfl⟩
abbrev main_call0_call1_v15 : Ref sig .tc := ⟨.hbm, 55, rfl⟩
abbrev main_v0 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x1x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x64x64 : Shape := ⟨3, ![32, 64, 64]⟩
abbrev S4096x1100 : Shape := ⟨2, ![4096, 1100]⟩
abbrev S256x1100 : Shape := ⟨2, ![256, 1100]⟩
abbrev S32x4096 : Shape := ⟨2, ![32, 4096]⟩
abbrev S_ : Shape := ⟨0, ![]⟩
abbrev S32x4096x1 : Shape := ⟨3, ![32, 4096, 1]⟩
abbrev S1 : Shape := ⟨1, ![1]⟩
abbrev S1x1x1 : Shape := ⟨3, ![1, 1, 1]⟩
abbrev S32x4096x1100 : Shape := ⟨3, ![32, 4096, 1100]⟩
abbrev S1x4096x1100 : Shape := ⟨3, ![1, 4096, 1100]⟩
abbrev S32x1100 : Shape := ⟨2, ![32, 1100]⟩

abbrev nBuf : Space → Nat
  | .hbm => 60
  | .vmem => 0
  | .smem => 0
  | _ => 0

abbrev bufTy : (tb : Table) → Fin (tcTables nBuf tb) → BufTy
  | .hbm, ⟨0, _⟩ => ⟨S32x64x64, .i32⟩
  | .hbm, ⟨1, _⟩ => ⟨S4096x1100, .f32⟩
  | .hbm, ⟨2, _⟩ => ⟨S256x1100, .f32⟩
  | .hbm, ⟨3, _⟩ => ⟨S32x4096, .i32⟩
  | .hbm, ⟨4, _⟩ => ⟨S32x4096, .f32⟩
  | .hbm, ⟨5, _⟩ => ⟨S_, .f32⟩
  | .hbm, ⟨6, _⟩ => ⟨S32x4096, .f32⟩
  | .hbm, ⟨7, _⟩ => ⟨S32x4096, .f32⟩
  | .hbm, ⟨8, _⟩ => ⟨S_, .f32⟩
  | .hbm, ⟨9, _⟩ => ⟨S32x4096, .f32⟩
  | .hbm, ⟨10, _⟩ => ⟨S32x4096, .f32⟩
  | .hbm, ⟨11, _⟩ => ⟨S_, .f32⟩
  | .hbm, ⟨12, _⟩ => ⟨S32x4096, .f32⟩
  | .hbm, ⟨13, _⟩ => ⟨S32x4096, .f32⟩
  | .hbm, ⟨14, _⟩ => ⟨S32x4096, .f32⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S32x4096, .f32⟩
  | .hbm, ⟨19, _⟩ => ⟨S32x4096, .f32⟩
  | .hbm, ⟨20, _⟩ => ⟨S_, .f32⟩
  | .hbm, ⟨21, _⟩ => ⟨S32x4096, .f32⟩
  | .hbm, ⟨22, _⟩ => ⟨S32x4096, .f32⟩
  | .hbm, ⟨23, _⟩ => ⟨S32x4096, .i32⟩
  | .hbm, ⟨24, _⟩ => ⟨S_, .i32⟩
  | .hbm, ⟨25, _⟩ => ⟨S32x4096, .i32⟩
  | .hbm, ⟨26, _⟩ => ⟨S32x4096, .i1⟩
  | .hbm, ⟨27, _⟩ => ⟨S_, .i32⟩
  | .hbm, ⟨28, _⟩ => ⟨S32x4096, .i32⟩
  | .hbm, ⟨29, _⟩ => ⟨S32x4096, .i32⟩
  | .hbm, ⟨30, _⟩ => ⟨S32x4096, .i32⟩
  | .hbm, ⟨31, _⟩ => ⟨S32x4096x1, .i32⟩
  | .hbm, ⟨32, _⟩ => ⟨S1, .i32⟩
  | .hbm, ⟨33, _⟩ => ⟨S_, .i32⟩
  | .hbm, ⟨34, _⟩ => ⟨S32x4096x1, .i32⟩
  | .hbm, ⟨35, _⟩ => ⟨S32x4096x1, .i1⟩
  | .hbm, ⟨36, _⟩ => ⟨S1x1x1, .i32⟩
  | .hbm, ⟨37, _⟩ => ⟨S32x4096x1, .i32⟩
  | .hbm, ⟨38, _⟩ => ⟨S32x4096x1, .i1⟩
  | .hbm, ⟨39, _⟩ => ⟨S32x4096x1, .i1⟩
  | .hbm, ⟨40, _⟩ => ⟨S_, .i1⟩
  | .hbm, ⟨41, _⟩ => ⟨S32x4096, .i1⟩
  | .hbm, ⟨42, _⟩ => ⟨S32x4096x1100, .f32⟩
  | .hbm, ⟨43, _⟩ => ⟨S32x4096x1100, .i1⟩
  | .hbm, ⟨44, _⟩ => ⟨S_, .f32⟩
  | .hbm, ⟨45, _⟩ => ⟨S32x4096x1100, .f32⟩
  | .hbm, ⟨46, _⟩ => ⟨S32x4096x1100, .f32⟩
  | .hbm, ⟨47, _⟩ => ⟨S1x4096x1100, .f32⟩
  | .hbm, ⟨48, _⟩ => ⟨S32x4096x1100, .f32⟩
  | .hbm, ⟨49, _⟩ => ⟨S32x4096x1100, .f32⟩
  | .hbm, ⟨50, _⟩ => ⟨S_, .f32⟩
  | .hbm, ⟨51, _⟩ => ⟨S32x1100, .f32⟩
  | .hbm, ⟨52, _⟩ => ⟨S_, .f32⟩
  | .hbm, ⟨53, _⟩ => ⟨S32x1100, .f32⟩
  | .hbm, ⟨54, _⟩ => ⟨S32x1100, .i1⟩
  | .hbm, ⟨55, _⟩ => ⟨S_, .f32⟩
  | .hbm, ⟨56, _⟩ => ⟨S_, .f32⟩
  | .hbm, ⟨57, _⟩ => ⟨S32x1100, .f32⟩
  | .hbm, ⟨58, _⟩ => ⟨S32x1100, .f32⟩
  | .hbm, ⟨59, _⟩ => ⟨S32x1100, .f32⟩
  | _, _ => ⟨S32x64x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v9 : Ref sig .tc := ⟨.hbm, 22, rfl⟩
abbrev main_v10 : Ref sig .tc := ⟨.hbm, 23, rfl⟩
abbrev main_call2_c : Ref sig .tc := ⟨.hbm, 24, rfl⟩
abbrev main_call2_v0 : Ref sig .tc := ⟨.hbm, 25, rfl⟩
abbrev main_call2_v1 : Ref sig .tc := ⟨.hbm, 26, rfl⟩
abbrev main_call2_c_0 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_c_1 : Ref sig .tc := ⟨.hbm, 32, rfl⟩
abbrev main_call2_c_2 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_c_3 : Ref sig .tc := ⟨.hbm, 40, rfl⟩
abbrev main_call2_v12 : Ref sig .tc := ⟨.hbm, 41, rfl⟩
abbrev main_call2_v13 : Ref sig .tc := ⟨.hbm, 42, rfl⟩
abbrev main_call2_v14 : Ref sig .tc := ⟨.hbm, 43, rfl⟩
abbrev main_call2_cst : Ref sig .tc := ⟨.hbm, 44, rfl⟩
abbrev main_call2_v15 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_3 : Ref sig .tc := ⟨.hbm, 50, rfl⟩
abbrev main_v15 : Ref sig .tc := ⟨.hbm, 51, rfl⟩
abbrev main_cst_4 : Ref sig .tc := ⟨.hbm, 52, rfl⟩
abbrev main_v16 : Ref sig .tc := ⟨.hbm, 53, rfl⟩
abbrev main_v17 : Ref sig .tc := ⟨.hbm, 54, rfl⟩
abbrev main_cst_5 : Ref sig .tc := ⟨.hbm, 55, rfl⟩
abbrev main_cst_6 : Ref sig .tc := ⟨.hbm, 56, rfl⟩
abbrev main_call3_v0 : Ref sig .tc := ⟨.hbm, 57, rfl⟩
abbrev main_call3_v1 : Ref sig .tc := ⟨.hbm, 58, rfl⟩
abbrev main_v18 : Ref sig .tc := ⟨.hbm, 59, rfl⟩

abbrev nD : Nat := 1
abbrev τ : Topo := Topo.v7x

variable {F : FTy → Type} [FloatOps F]
-- ==== Proof.Words.lean ====
/- Index words in range: the printed wrap of negative words leaves them, and the printed range check is one. -/
module

public import Idealize.ShloMosaic.Lib.Pointwise
public import Idealize.ShloMosaic.Lib.Affine

@[expose] public section

noncomputable section

namespace Cert.Proof.Enc

open Idealize.ShloMosaic

/-- A word below half the range, read signed, is its own number. -/
theorem toInt_small {w : BitVec 32} (h : w.toNat < 2 ^ 31) : w.toInt = w.toNat := BitVec.toInt_eq_toNat_of_lt (by omega)

/-- A comparison bit that is not one is zero, and a choice by it takes the second. -/
theorem select_of_ne {α : Type} {c : BitVec 1} (h : c ≠ 1#1) (a b : α) : Scalar.select c a b = b := if_neg h

/-- A choice by a one takes the first. -/
theorem select_of_one {α : Type} {c : BitVec 1} (h : c = 1#1) (a b : α) : Scalar.select c a b = a := if_pos h

/-- The wrap of negative words leaves a word that is not negative. -/
theorem wrap_word {w : BitVec 32} (h : w.toNat < 2 ^ 31) (t : BitVec 32) :
    Scalar.select (IntOp.cmpi .slt w 0#32) t w = w := by
  refine select_of_ne (fun e => ?_) _ _
  rw [IntOp.cmpi_slt, toInt_small h] at e
  simp at e
  omega

/-- The range check of a word from zero to the last index is one. -/
theorem range_word {w t : BitVec 32} (h : w.toNat ≤ t.toNat) (ht : t.toNat < 2 ^ 31) :
    IntOp.andi (IntOp.cmpi .sge w 0#32) (IntOp.cmpi .sle w t) = 1#1 := by
  rw [IntOp.andi_eq_one, IntOp.cmpi_sge, IntOp.cmpi_sle, toInt_small (w := w) (by omega), toInt_small ht,
    show (0#32 : BitVec 32).toInt = 0 by decide]
  omega

/-- The conjunction of ones is one. -/
theorem fold_ones {ι : Type} (s : Finset ι) {f : ι → BitVec 1} (h : ∀ x ∈ s, f x = 1#1) :
    Finset.fold IntOp.andi (1#1) f s = 1#1 := by
  classical
  induction s using Finset.induction_on with
  | empty => rfl
  | insert a s ha ih =>
    rw [Finset.fold_insert ha, h a (Finset.mem_insert_self ..), ih fun x hx => h x (Finset.mem_insert_of_mem hx)]
    rfl

end Cert.Proof.Enc
-- ==== Proof.Levels.lean ====
/- The level number of an input word, as the kernel and as the reference compute it. -/
module

public import proofs.«01_k».proof.Proof.Words

@[expose] public section

noncomputable section

namespace Cert.Proof.Enc

open Idealize.ShloMosaic

/-- 255 as a single-precision pattern. -/
theorem lit_255 : Ideal.ofBits .f32 1132396544#32 = ((255 : ℝ) : EReal) := by
  simp [Ideal.ofBits, Ideal.ieee, -EReal.coe_mul, -EReal.coe_neg]; norm_num
/-- 256 as a single-precision pattern. -/
theorem lit_256 : Ideal.ofBits .f32 1132462080#32 = ((256 : ℝ) : EReal) := by
  simp [Ideal.ofBits, Ideal.ieee, -EReal.coe_mul, -EReal.coe_neg]; norm_num
/-- 255/256 as a single-precision pattern. -/
theorem lit_frac : Ideal.ofBits .f32 1065287680#32 = ((255 / 256 : ℝ) : EReal) := by
  simp [Ideal.ofBits, Ideal.ieee, -EReal.coe_mul, -EReal.coe_neg]; norm_num
/-- Two as a single-precision pattern. -/
theorem lit_two : Ideal.ofBits .f32 1073741824#32 = ((2 : ℝ) : EReal) := by
  simp [Ideal.ofBits, Ideal.ieee, -EReal.coe_mul, -EReal.coe_neg]; norm_num
/-- Minus one as a single-precision pattern. -/
theorem lit_neg_one : Ideal.ofBits .f32 3212836864#32 = ((-1 : ℝ) : EReal) := by
  simp [Ideal.ofBits, Ideal.ieee, -EReal.coe_mul, -EReal.coe_neg]; norm_num

/-- The level of an input word: its 255/256, rounded to the nearest whole number, ties to even, kept from 0 to 255. -/
def level (x : BitVec 32) : Nat := (min 255 (max 0 (Ideal.roundHalfEven ((x.toInt : ℝ) * (255 / 256))))).toNat

/-- There are 256 levels. -/
theorem level_lt (x : BitVec 32) : level x < 256 := by
  unfold level; omega

/-- The level word as the kernel computes it: the scaled word rounded, kept in the range, and read as a whole number. -/
def kernelLevel (x : BitVec 32) : BitVec 32 :=
  FloatOps.fptosi (F := Ideal) (φ := .f32) 32 (min (Ideal.ofBits FTy.f32 1132396544#32)
    (max 0 (Ideal.liftRound Ideal.roundHalfEven (FloatOps.sitofp (F := Ideal) FTy.f32 x * Ideal.ofBits FTy.f32 1065287680#32))))

/-- The level word as the reference computes it: the word divided by 256 and multiplied by 255 first. -/
def referenceLevel (x : BitVec 32) : BitVec 32 :=
  FloatOps.fptosi (F := Ideal) (φ := .f32) 32 (min (FloatOps.sitofp (F := Ideal) FTy.f32 255#32)
    (max (FloatOps.sitofp (F := Ideal) FTy.f32 0#32) (Ideal.liftRound Ideal.roundHalfEven
      (Ideal.div (FloatOps.sitofp (F := Ideal) FTy.f32 x) (Ideal.ofBits FTy.f32 1132462080#32) * Ideal.ofBits FTy.f32 1132396544#32))))

/-- A whole number, kept from 0 to 255 among the extended reals and read as a word, is the word of that number kept so. -/
theorem fptosi_clamped (n : ℤ) :
    FloatOps.fptosi (F := Ideal) (φ := .f32) 32 (min ((255 : ℝ) : EReal) (max 0 (((n : ℝ)) : EReal)))
      = BitVec.ofNat 32 (min 255 (max 0 n)).toNat := by
  have h : (min ((255 : ℝ) : EReal) (max 0 (((n : ℝ)) : EReal))) = (((min 255 (max 0 n) : ℤ) : ℝ) : EReal) := by
    push_cast
    rw [EReal.coe_strictMono.monotone.map_min, EReal.coe_strictMono.monotone.map_max]
    norm_num
  rw [h]
  show Ideal.fptosi 32 _ = _
  unfold Ideal.fptosi
  rw [Ideal.toIntClamped_coe]
  have e : ∀ k : ℤ, 0 ≤ k → k ≤ 255 → BitVec.ofInt 32 (max (-(2 ^ (32 - 1) : Nat)) (min ((2 ^ (32 - 1) : Nat) - 1)
      (if (0 : ℝ) ≤ (k : ℝ) then ⌊(k : ℝ)⌋ else ⌈(k : ℝ)⌉))) = BitVec.ofNat 32 k.toNat := by
    intro k h0 h1
    rw [Int.floor_intCast, Int.ceil_intCast, ite_self]
    rw [min_eq_right (by norm_num; omega), max_eq_right (by norm_num; omega)]
    obtain ⟨n, rfl⟩ := Int.eq_ofNat_of_zero_le h0
    simp
  exact e _ (by omega) (by omega)

/-- The kernel's level word is the word of the level. -/
theorem kernelLevel_eq (x : BitVec 32) : kernelLevel x = BitVec.ofNat 32 (level x) := by
  unfold kernelLevel level
  rw [lit_255, lit_frac]
  show FloatOps.fptosi (F := Ideal) (φ := .f32) 32 (min _ (max 0 (Ideal.liftRound Ideal.roundHalfEven (((x.toInt : ℝ) : EReal) * _)))) = _
  rw [← EReal.coe_mul, Ideal.liftRound_coe]
  exact fptosi_clamped _

/-- The reference's level word is the word of the level: dividing by 256 and multiplying by 255 is scaling by 255/256. -/
theorem referenceLevel_eq (x : BitVec 32) : referenceLevel x = BitVec.ofNat 32 (level x) := by
  unfold referenceLevel level
  rw [lit_255, lit_256]
  have h : Ideal.div (FloatOps.sitofp (F := Ideal) FTy.f32 x) ((256 : ℝ) : EReal) * ((255 : ℝ) : EReal)
      = (((x.toInt : ℝ) * (255 / 256) : ℝ) : EReal) := by
    show Ideal.div ((x.toInt : ℝ) : EReal) _ * _ = _
    unfold Ideal.div
    rw [if_neg (by norm_num), ← EReal.coe_inv, ← EReal.coe_mul, ← EReal.coe_mul]
    congr 1
    ring
  rw [h, Ideal.liftRound_coe]
  have h255 : FloatOps.sitofp (F := Ideal) FTy.f32 255#32 = ((255 : ℝ) : EReal) := by
    show (((255#32 : BitVec 32).toInt : ℝ) : EReal) = _
    rw [show (255#32 : BitVec 32).toInt = 255 by decide]
    norm_num
  have h0 : FloatOps.sitofp (F := Ideal) FTy.f32 0#32 = (0 : EReal) := by
    show (((0#32 : BitVec 32).toInt : ℝ) : EReal) = _
    rw [show (0#32 : BitVec 32).toInt = 0 by decide]
    norm_num
  rw [h255, h0]
  exact fptosi_clamped _

end Cert.Proof.Enc
-- ==== Proof.Block.lean ====
/- What one grid point computes: the sign of twice the selected sum less the whole sum. -/
module

public import proofs.«01_k».proof.Proof.Gen.KernelIdeal.Skeleton
public import proofs.«01_k».proof.Proof.Levels
public import proofs.«01_k».proof.Proof.Words
public import Idealize.ShloMosaic.Lib.Pointwise

@[expose] public section

noncomputable section

namespace Cert.Proof.Enc

open Cert.KernelIdeal Cert.KernelIdeal.Gen Idealize.ShloMosaic

/-- A comparison's bit, widened and read as a number, is one where it holds and zero elsewhere. -/
theorem bit_number (φ : FTy) (a : BitVec 1) : FloatOps.sitofp (F := Ideal) φ (BitVec.setWidth 32 a) = (if a = 1#1 then (1 : EReal) else 0) := by
  have h : a = 0#1 ∨ a = 1#1 := by
    revert a
    decide
  rcases h with rfl | rfl
  · show (((BitVec.setWidth 32 (0#1)).toInt : ℝ) : EReal) = _
    rw [show (BitVec.setWidth 32 (0#1)).toInt = 0 by decide]
    simp
  · show (((BitVec.setWidth 32 (1#1)).toInt : ℝ) : EReal) = _
    rw [show (BitVec.setWidth 32 (1#1)).toInt = 1 by decide]
    simp

/-- The level's comparison with the group's `l`-th level, read as a number. -/
theorem mask_number (φ : FTy) (g : Nat) (hg : g < 16) (l : Fin 16) (x : BitVec 32) :
    FloatOps.sitofp (F := Ideal) φ (BitVec.setWidth 32 (IntOp.cmpi .sge (kernelLevel x)
      (IntOp.addi (Scalar.muli (BitVec.ofNat 32 g) 16#32) (BitVec.ofNat 32 l.val))))
      = (if 16 * g + l.val ≤ level x then (1 : EReal) else 0) := by
  have e : IntOp.addi (Scalar.muli (BitVec.ofNat 32 g) 16#32) (BitVec.ofNat 32 l.val) = BitVec.ofNat 32 (16 * g + l.val) := by
    apply BitVec.eq_of_toNat_eq
    show (BitVec.ofNat 32 g * 16#32 + BitVec.ofNat 32 l.val).toNat = _
    rw [BitVec.toNat_add, BitVec.toNat_mul]
    simp only [BitVec.toNat_ofNat]
    have := l.isLt
    omega
  rw [bit_number, e, kernelLevel_eq]
  have hl := level_lt x
  have hl' := l.isLt
  refine if_congr ?_ rfl rfl
  rw [IntOp.cmpi_sge, toInt_small (by rw [BitVec.toNat_ofNat]; omega), toInt_small (by rw [BitVec.toNat_ofNat]; omega),
    BitVec.toNat_ofNat, BitVec.toNat_ofNat]
  omega

set_option maxRecDepth 16384 in
/-- The number whose sign a grid point takes: twice the selected sums' total, less the whole sum. -/
theorem block_apply (i : grid0.Coords) (x : Vec Ideal S32x1x4096 .i32) (p : Vec Ideal S4096x128 .bf16)
    (w : Vec Ideal S1x16x128 .f32) (b : Fin 32) (k : Fin 128) :
    k0_pay2 (F := Ideal) i x p w p (ix2 b k)
      = ((2 : ℝ) : EReal) * (∑ l : Fin 16, (∑ q : Fin 4096,
          (if 16 * (i 0).val + l.val ≤ level (x (ix3 b 0 q)) then (1 : EReal) else 0) * (p (ix2 q k) : EReal)) * (w (ix3 0 l k) : EReal))
        - ∑ q : Fin 4096, (p (ix2 q k) : EReal) := by
  have hi : (i 0).val < 16 := (i 0).isLt
  pointwise [k0_pay2]
  rw [lit_two]
  refine congrArg (fun y : EReal => ((2 : ℝ) : EReal) * y - ∑ q : Fin 4096, (p (ix2 q k) : EReal)) ?_
  refine Finset.sum_congr rfl fun l _ => congrArg (fun y : EReal => y * (w (ix3 0 l k) : EReal)) ?_
  refine Finset.sum_congr rfl fun q _ => congrArg (fun y : EReal => y * (p (ix2 q k) : EReal)) ?_
  exact mask_number _ _ hi l (x (ix3 b 0 q))

/-- The sign a grid point writes. -/
theorem sign_apply (u v : FVec Ideal S32x128 .f32) (b : Fin 32) (k : Fin 128) :
    k0_pay1 (F := Ideal) u v (ix3 0 b k) = if (v (ix2 b k) : EReal) < u (ix2 b k) then (1 : EReal) else Ideal.ofBits .f32 3212836864#32 := by
  pointwise [k0_pay1]

end Cert.Proof.Enc
-- ==== Proof.OutArray.lean ====
/- What the grid leaves in the array of signs: at group `g`, row `b`, lane `k` the sign of the block's number there. -/
module

public import proofs.«01_k».proof.Proof.Gen.KernelIdeal.Frame
public import proofs.«01_k».proof.Proof.Block
public import Idealize.ShloMosaic.Lib.Claim
public import Idealize.ShloMosaic.Lib.Pipeline.ValueKit

@[expose] public section

noncomputable section

namespace Cert.Proof.Enc

open Cert.KernelIdeal Cert.KernelIdeal.Gen Idealize.ShloMosaic Idealize.ShloMosaic.TcCoe Idealize.SL.Sem

variable (m : (ℓ : Loc nD τ sig) → Buf (Elt Ideal) ℓ) (c : Dev nD)

/-- The number whose sign group `g` writes at row `b` and lane `k`: of words `x`, gathered positions `p`, table `w`. -/
def groupNumber (x : (⟨3, ![32, 1, 4096]⟩ : Shape).Idx → BitVec 32) (p : (⟨2, ![4096, 2048]⟩ : Shape).Idx → EReal)
    (w : (⟨3, ![16, 16, 128]⟩ : Shape).Idx → EReal) (g : Fin 16) (b : Fin 32) (k : Fin 128) : EReal :=
  ((2 : ℝ) : EReal) * (∑ l : Fin 16, (∑ q : Fin 4096,
      (if 16 * g.val + l.val ≤ level (x (ix3 b 0 q)) then (1 : EReal) else 0) * p (ix2 q ⟨g.val * 128 + k.val, by omega⟩)) * w (ix3 g l k))
    - ∑ q : Fin 4096, p (ix2 q ⟨g.val * 128 + k.val, by omega⟩)

/-- The array of signs. -/
def signs (x : (⟨3, ![32, 1, 4096]⟩ : Shape).Idx → BitVec 32) (p : (⟨2, ![4096, 2048]⟩ : Shape).Idx → EReal)
    (w : (⟨3, ![16, 16, 128]⟩ : Shape).Idx → EReal) (y : (⟨3, ![16, 32, 128]⟩ : Shape).Idx) : EReal :=
  if 0 < groupNumber x p w (y 0) (y 1) (y 2) then (1 : EReal) else Ideal.ofBits .f32 3212836864#32

/-- A point's grid coordinate is the point. -/
theorem coord (t : Fin grid0.N) : (grid0.coords t 0).val = t.val := by
  revert t
  decide +kernel

/-- The group that a point works on. -/
def group (t : Fin grid0.N) : Fin 16 := ⟨t.val, t.isLt⟩

/-- The block indices at a point: the words' and the others' coordinates. -/
theorem places (t : Fin grid0.N) :
    (win0_0.index t 0 = 0 ∧ win0_0.index t 1 = 0 ∧ win0_0.index t 2 = 0)
      ∧ (win0_1.index t 0 = 0 ∧ win0_1.index t 1 = t.val)
      ∧ (win0_2.index t 0 = t.val ∧ win0_2.index t 1 = 0 ∧ win0_2.index t 2 = 0)
      ∧ (win0_3.index t 0 = t.val ∧ win0_3.index t 1 = 0 ∧ win0_3.index t 2 = 0) := by
  revert t
  decide +kernel

set_option maxRecDepth 16384 in
/-- The words' block is the array of words. -/
theorem words_block (t : Fin cfg0.N) (b : Fin 32) (q : Fin 4096) :
    iblk m c 0 t (ix3 b 0 q) = V m c main_call0_v0 (ix3 b 0 q) := by
  blk_ext [iblk, places t]

set_option maxRecDepth 16384 in
/-- A point's block of positions is its group's lanes. -/
theorem pos_block (t : Fin cfg0.N) (q : Fin 4096) (k : Fin 128) :
    iblk m c 1 t (ix2 q k) = V m c main_call0_v2 (ix2 q ⟨(group t).val * 128 + k.val, by omega⟩) := by
  blk_ext [iblk, places t, group]

set_option maxRecDepth 16384 in
/-- A point's block of the table is its group's slice. -/
theorem table_block (t : Fin cfg0.N) (l : Fin 16) (k : Fin 128) :
    iblk m c 2 t (ix3 0 l k) = V m c main_call0_cst (ix3 (group t) l k) := by
  blk_ext [iblk, places t, group]

set_option maxRecDepth 16384 in
/-- After the last point the output's array is the array of signs. -/
theorem array_eq : (dats m 0 c).arrAt 3 cfg0.N = signs (V m c main_call0_v0) (V m c main_call0_v2) (V m c main_call0_cst) := by
  refine (dats m 0 c).arrAt_eq_of_covers 3 _ (by decide +kernel) fun t hf y => ?_
  blk_simp
  rw [after0_3]
  frame_out
  have hy : ∃ (b : Fin 32) (k : Fin 128), y = ix3 0 b k := ⟨y 1, y 2, by
    funext a
    fin_cases a
    · exact Subsingleton.elim (α := Fin 1) _ _
    · rfl
    · rfl⟩
  obtain ⟨b, k, rfl⟩ := hy
  have he : ((View.whole main_call0_v3).slice (win0_3.rect t)).emb (ix3 0 b k) = ix3 (group t) b k := by
    blk_ext [places t, group]
  rw [he]
  refine (sign_apply _ _ b k).trans ?_
  have hu : k0_pay2 (F := Ideal) (grid0.coords t) (iblk m c 0 t) (iblk m c 1 t) (iblk m c 2 t) (iblk m c 1 t) (ix2 b k)
      = groupNumber (V m c main_call0_v0) (V m c main_call0_v2) (V m c main_call0_cst) (group t) b k := by
    refine (block_apply (grid0.coords t) (iblk m c 0 t) (iblk m c 1 t) (iblk m c 2 t) b k).trans ?_
    unfold groupNumber
    rw [coord t]
    simp only [words_block, pos_block, table_block]
    rfl
  rw [hu]
  have hz : (k0_pay3 (F := Ideal) (ix2 b k) : EReal) = 0 := by
    pointwise [k0_pay3]
  rw [hz]
  rfl

end Cert.Proof.Enc
-- ==== Proof.Tables.lean ====
/- What the three tables that the program carries as constants hold at the entries of the 1100 columns. -/
module

public import proofs.«01_k».proof.KernelIdeal

@[expose] public section

noncomputable section

namespace Cert.Proof.Enc

open Cert.KernelIdeal

/-- The level from which column `d` is switched on: its level is one exactly from this number upward. -/
def thr (d : Nat) : Nat := if (d + 180) % 256 = 0 then 255 else 256 - (d + 180) % 256

/-- The place that column `d` has in the 16 groups of 128 places. -/
def place (d : Fin 1100) : Nat := (lit2 d).toNat

set_option maxRecDepth 100000 in
/-- Every place is one of the 2048, in the group of the upper four bits of the column's threshold, and the place's own
    column is the column it came from. -/
theorem place_facts : ∀ d : Fin 1100, place d < 2048 ∧ place d / 128 = thr d / 16 ∧ lit0 ⟨place d % 2048, Nat.mod_lt _ (by decide)⟩ = BitVec.ofNat 32 d.val := by
  decide +kernel

set_option maxRecDepth 100000 in
/-- In the group of its column, a place's row of the selecting table is one at the lower four bits of the threshold and
    zero at the other fifteen rows. -/
theorem pick_facts : ∀ d : Fin 1100, ∀ l : Fin 16,
    lit1 ⟨(place d / 128 * 2048 + l.val * 128 + place d % 128) % 32768, Nat.mod_lt _ (by decide)⟩
      = if l.val = thr d % 16 then 0x3F800000#32 else 0#32 := by
  decide +kernel

set_option maxRecDepth 100000 in
/-- Every place, of a column or not, reads an existing column. -/
theorem source_facts : ∀ s : Fin 2048, (lit0 s).toNat < 1100 := by
  decide +kernel

end Cert.Proof.Enc
-- ==== Proof.Gather.lean ====
/- A gather of whole columns, and a gather of whole rows, read at an index; and the printed `take` around each, where every
   index word is in range. -/
module

public import Idealize.ShloMosaic.Lib.Pointwise
public import Idealize.ShloMosaic.Lib.ReduceAll

@[expose] public section

noncomputable section

namespace Cert.Proof.Enc

open Idealize.ShloMosaic

variable {α : Type}

/-- A word of a small number, read signed, is the number. -/
theorem word_toInt (q : Nat) (h : q < 2 ^ 31) : (BitVec.ofNat 32 q).toInt.toNat = q := by
  have h2 : (BitVec.ofNat 32 q).toNat = q := by rw [BitVec.toNat_ofNat]; omega
  rw [BitVec.toInt_eq_toNat_of_lt (by rw [h2]; omega), h2]
  rfl

/-- A gather along the second axis of a rectangle, with whole columns as slices, has at `(r, k)` the rectangle's entry in
    row `r` of the column that index word `k` names. -/
theorem gather_cols {R N n : Nat}
    (wf : GatherDims.WF ⟨2, ![R, N]⟩ ⟨2, ![n, 1]⟩ ⟨2, ![R, n]⟩ [0] [1] [] [1] [] 1 ![R, 1])
    (x : (⟨2, ![R, N]⟩ : Shape).Idx → α) (idx : IVec ⟨2, ![n, 1]⟩ 32) (r : Fin R) (k : Fin n) (q : Fin N)
    (hq : idx (ix2 k 0) = BitVec.ofNat 32 q.val) (hN : N < 2 ^ 31) :
    Host.gather ⟨[0], [1], [], [], [1], 1, ![R, 1], wf⟩ x idx (ix2 r k) = x (ix2 r q) := by
  unfold Host.gather
  congr 1
  funext a
  refine Fin.ext ?_
  have hv : (BitVec.ofNat 32 q.val).toInt.toNat = q.val := word_toInt q.val (by have := q.isLt; omega)
  match a with
  | ⟨0, _⟩ =>
    show GatherDims.start _ _ _ 0 + GatherDims.batchCoord _ _ 0 + GatherDims.offCoord _ _ 0 = r.val
    rw [GatherDims.batchCoord_eq_zero _ _ _ List.not_mem_nil]
    have h0 : GatherDims.start (⟨[0], [1], [], [], [1], 1, ![R, 1], wf⟩ : GatherDims ⟨2, ![R, N]⟩ ⟨2, ![n, 1]⟩ ⟨2, ![R, n]⟩) (ix2 r k) idx 0 = 0 := by
      unfold GatherDims.start
      rw [dif_neg (show (0 : Fin 2) ∉ ([1] : List (Fin 2)) by decide)]
    rw [h0]
    simp only [Nat.zero_add]
    unfold GatherDims.offCoord
    rw [dif_pos ((GatherDims.mem_sKept _ _).mpr ⟨show (0 : Fin 2) ∉ ([1] : List (Fin 2)) by decide, List.not_mem_nil⟩)]
    rfl
  | ⟨1, _⟩ =>
    show GatherDims.start _ _ _ 1 + GatherDims.batchCoord _ _ 1 + GatherDims.offCoord _ _ 1 = q.val
    rw [GatherDims.batchCoord_eq_zero _ _ _ List.not_mem_nil,
      GatherDims.offCoord_eq_zero _ _ _ (fun h => ((GatherDims.mem_sKept _ _).mp h).1 (show (1 : Fin 2) ∈ ([1] : List (Fin 2)) by decide))]
    simp only [Nat.add_zero]
    unfold GatherDims.start
    rw [dif_pos (show (1 : Fin 2) ∈ ([1] : List (Fin 2)) by decide)]
    have hsi : ∀ c, GatherDims.siIdx (⟨[0], [1], [], [], [1], 1, ![R, 1], wf⟩ : GatherDims ⟨2, ![R, N]⟩ ⟨2, ![n, 1]⟩ ⟨2, ![R, n]⟩) (ix2 r k) c = ix2 k 0 := by
      intro c
      funext b; refine Fin.ext ?_
      match b with
      | ⟨0, _⟩ => rfl
      | ⟨1, _⟩ => exact Nat.lt_one_iff.mp c.isLt
    rw [hsi, hq, hv]
    show min q.val (N - 1) = q.val
    have := q.isLt
    omega

/-- A gather along the first axis of a rectangle at a rectangle of index words, with whole rows as slices, has at
    `(b, p, d)` the entry in column `d` of the row that index word `(b, p)` names. -/
theorem gather_rows {N C B n : Nat}
    (wf : GatherDims.WF ⟨2, ![N, C]⟩ ⟨3, ![B, n, 1]⟩ ⟨3, ![B, n, C]⟩ [2] [0] [] [0] [] 2 ![1, C])
    (x : (⟨2, ![N, C]⟩ : Shape).Idx → α) (idx : IVec ⟨3, ![B, n, 1]⟩ 32) (b : Fin B) (p : Fin n) (d : Fin C) (q : Fin N)
    (hq : idx (ix3 b p 0) = BitVec.ofNat 32 q.val) (hN : N < 2 ^ 31) :
    Host.gather ⟨[2], [0], [], [], [0], 2, ![1, C], wf⟩ x idx (ix3 b p d) = x (ix2 q d) := by
  unfold Host.gather
  congr 1
  funext a
  refine Fin.ext ?_
  have hv : (BitVec.ofNat 32 q.val).toInt.toNat = q.val := word_toInt q.val (by have := q.isLt; omega)
  match a with
  | ⟨1, _⟩ =>
    show GatherDims.start _ _ _ 1 + GatherDims.batchCoord _ _ 1 + GatherDims.offCoord _ _ 1 = d.val
    rw [GatherDims.batchCoord_eq_zero _ _ _ List.not_mem_nil]
    have h0 : GatherDims.start (⟨[2], [0], [], [], [0], 2, ![1, C], wf⟩ : GatherDims ⟨2, ![N, C]⟩ ⟨3, ![B, n, 1]⟩ ⟨3, ![B, n, C]⟩) (ix3 b p d) idx 1 = 0 := by
      unfold GatherDims.start
      rw [dif_neg (show (1 : Fin 2) ∉ ([0] : List (Fin 2)) by decide)]
    rw [h0]
    simp only [Nat.zero_add]
    unfold GatherDims.offCoord
    rw [dif_pos ((GatherDims.mem_sKept _ _).mpr ⟨show (1 : Fin 2) ∉ ([0] : List (Fin 2)) by decide, List.not_mem_nil⟩)]
    rfl
  | ⟨0, _⟩ =>
    show GatherDims.start _ _ _ 0 + GatherDims.batchCoord _ _ 0 + GatherDims.offCoord _ _ 0 = q.val
    rw [GatherDims.batchCoord_eq_zero _ _ _ List.not_mem_nil,
      GatherDims.offCoord_eq_zero _ _ _ (fun h => ((GatherDims.mem_sKept _ _).mp h).1 (show (0 : Fin 2) ∈ ([0] : List (Fin 2)) by decide))]
    simp only [Nat.add_zero]
    unfold GatherDims.start
    rw [dif_pos (show (0 : Fin 2) ∈ ([0] : List (Fin 2)) by decide)]
    have hsi : ∀ c, GatherDims.siIdx (⟨[2], [0], [], [], [0], 2, ![1, C], wf⟩ : GatherDims ⟨2, ![N, C]⟩ ⟨3, ![B, n, 1]⟩ ⟨3, ![B, n, C]⟩) (ix3 b p d) c = ix3 b p 0 := by
      intro c
      funext b; refine Fin.ext ?_
      match b with
      | ⟨0, _⟩ => rfl
      | ⟨1, _⟩ => rfl
      | ⟨2, _⟩ => exact Nat.lt_one_iff.mp c.isLt
    rw [hsi, hq, hv]
    show min q.val (N - 1) = q.val
    have := q.isLt
    omega

end Cert.Proof.Enc
-- ==== Proof.Prefix.lean ====
/- What the lines before the region leave: the reshaped words, the gathered positions, the selecting table. -/
module

public import proofs.«01_k».proof.Proof.Gen.KernelIdeal.Frame
public import proofs.«01_k».proof.Proof.Tables
public import proofs.«01_k».proof.Proof.Gather
public import proofs.«01_k».proof.Proof.Words
public import Idealize.ShloMosaic.Lib.Claim
public import Idealize.ShloMosaic.Lib.StableHlo.ReadAt

@[expose] public section

noncomputable section

namespace Cert.Proof.Enc

open Cert.KernelIdeal Cert.KernelIdeal.Gen Idealize.ShloMosaic Idealize.ShloMosaic.TcCoe Idealize.SL.Sem

variable (m : (ℓ : Loc nD τ sig) → Buf (Elt Ideal) ℓ) (c : Dev nD)

set_option maxRecDepth 16384 in
/-- The words, one row of 4096 for each batch entry. -/
theorem words_apply (b : Fin 32) (p : Fin 4096) :
    V m c main_call0_v0 (ix3 b 0 p) = m (c.tc.loc main_arg0) (ix3 b ⟨p.val / 64, by omega⟩ ⟨p.val % 64, by omega⟩) := by
  unfold V V0
  simp only [List.flatten_cons, List.flatten_nil, List.append_nil]
  after_reads_at

set_option maxRecDepth 16384 in
/-- The selecting table at group `g`, level `l`, lane `k`. -/
theorem table_apply (g : Fin 16) (l : Fin 16) (k : Fin 128) :
    V m c main_call0_cst (ix3 g l k)
      = Ideal.ofBits FTy.f32 (lit1 ⟨(g.val * 2048 + l.val * 128 + k.val) % 32768, Nat.mod_lt _ (by norm_num)⟩) := by
  unfold V V0
  simp only [List.flatten_cons, List.flatten_nil, List.append_nil]
  after_reads_at
  refine congrArg (fun q => Ideal.ofBits FTy.f32 (lit1 q)) (Fin.ext ?_)
  refine (rowMajor_val3 (ix3 g l k) 2048 128 rfl rfl).trans ?_
  show g.val * 2048 + l.val * 128 + k.val = (g.val * 2048 + l.val * 128 + k.val) % 32768
  omega

set_option maxRecDepth 16384 in
/-- The gathered positions: place `s` holds the column that the list of columns names there. -/
theorem posg_apply (p : Fin 4096) (s : Fin 2048) :
    V m c main_call0_v2 (ix2 p s) = m (c.tc.loc main_arg1) (ix2 p ⟨(lit0 s).toNat, source_facts s⟩) := by
  have hs := source_facts s
  have hrow : S2048.rowMajor (ix1 s) = s := Fin.ext (rowMajor_val1 (ix1 s))
  unfold V V0
  simp only [List.flatten_cons, List.flatten_nil, List.append_nil]
  after_reads_at
  refine (select_of_one (fold_ones _ fun q _ => ?_) _ _).trans ?_
  · rw [hrow, wrap_word (by omega)]
    exact range_word (by rw [show (1099#32).toNat = 1099 from rfl]; omega) (by decide)
  · refine gather_cols _ _ _ p s ⟨(lit0 s).toNat, hs⟩ ?_ (by norm_num)
    pointwise
    rw [hrow, wrap_word (by omega), BitVec.ofNat_toNat, BitVec.setWidth_eq]

end Cert.Proof.Enc
-- ==== Proof.Tail.lean ====
/- What the lines after the region leave: the encoding's columns, each gathered from its place in the array of signs. -/
module

public import proofs.«01_k».proof.Proof.Gen.KernelIdeal.Frame
public import proofs.«01_k».proof.Proof.Tables
public import proofs.«01_k».proof.Proof.Gather
public import proofs.«01_k».proof.Proof.Words
public import Idealize.ShloMosaic.Lib.Claim
public import Idealize.ShloMosaic.Lib.StableHlo.ReadAt

@[expose] public section

noncomputable section

namespace Cert.Proof.Enc

open Cert.KernelIdeal Cert.KernelIdeal.Gen Idealize.ShloMosaic Idealize.ShloMosaic.TcCoe Idealize.SL.Sem

variable (m : (ℓ : Loc nD τ sig) → Buf (Elt Ideal) ℓ) (c : Dev nD)

/-- A column's place is one of the 2048. -/
theorem place_lt (d : Fin 1100) : place d < 2048 := (place_facts d).1

set_option maxRecDepth 16384 in
/-- The list of places, which the region leaves as it found it. -/
theorem places_apply (d : Fin 1100) :
    Pipeline.withArrays spec0 c (V0 m c) (fun w => (dats m 0 c).arrAt w cfg0.N) (Proc.devRef .tc main_call0_c_0) (ix1 d) = lit2 d := by
  rw [Pipeline.withArrays_of_ne _ c (V0 m c) _ main_call0_c_0 (by exact (by decide : ∀ w, Pipeline.arrRef spec0 w ≠ main_call0_c_0))]
  unfold V0
  simp only [List.flatten_cons, List.flatten_nil, List.append_nil]
  after_reads_at
  exact congrArg lit2 (Fin.ext (rowMajor_val1 (ix1 d)))

set_option maxRecDepth 16384 in
/-- The result at row `b` and column `d`. -/
theorem result_apply (b : Fin 32) (d : Fin 1100) :
    Pipeline.afterTail₀ cfgs (dats m) 0 (V0 m) [hostOps1] c main_v0 (ix2 b d)
      = (dats m 0 c).arrAt 3 cfg0.N (ix3 ⟨place d / 128, by have := place_lt d; omega⟩ b ⟨place d % 128, by omega⟩) := by
  unfold Pipeline.afterTail₀
  simp only [List.flatten_cons, List.flatten_nil, List.append_nil]
  have h0 := places_apply m c d
  have h3 : Pipeline.withArrays spec0 c (V0 m c) (fun w => (dats m 0 c).arrAt w cfg0.N) (Proc.devRef .tc main_call0_v3) = (dats m 0 c).arrAt 3 cfg0.N :=
    Pipeline.withArrays_arr spec0 (by decide) c (V0 m c) (fun w => (dats m 0 c).arrAt w cfg0.N) 3
  have hd := place_lt d
  have hn : lit2 d = BitVec.ofNat 32 (place d) := by rw [place, BitVec.ofNat_toNat, BitVec.setWidth_eq]
  have hp : (lit2 d).toNat < 2048 := hd
  change StableHlo.after hostOps1 (Pipeline.withArrays spec0 c (V0 m c) (fun w => (dats m 0 c).arrAt w cfg0.N)) _ _ = _
  generalize hW : Pipeline.withArrays spec0 c (V0 m c) (fun w => (dats m 0 c).arrAt w cfg0.N) = W at h0 h3 ⊢
  after_reads_at
  refine (select_of_one (fold_ones _ fun q _ => ?_) _ _).trans ?_
  · rw [h0, wrap_word (by omega)]
    exact range_word (by rw [show (2047#32).toNat = 2047 from rfl]; omega) (by decide)
  · refine (gather_cols _ _ _ b d ⟨place d, hd⟩ ?_ (by norm_num)).trans ?_
    · pointwise
      rw [h0, wrap_word (by omega), hn]
    · rw [← h3]
      rfl

end Cert.Proof.Enc
-- ==== Proof.Equation.lean ====
/- The identity between the two sums: twice the selected weights less all of them is the sum of signed weights. -/
module

public import proofs.«01_k».proof.Proof.Levels
public import Mathlib.Data.EReal.Operations
public import Mathlib.Algebra.BigOperators.Ring.Finset

@[expose] public section

noncomputable section

namespace Cert.Proof.Enc

/-- A sum of reals, read as an extended real, term by term. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A choice between one and zero is the real choice. -/
theorem pick_coe (P : Prop) [Decidable P] : (if P then (1 : EReal) else 0) = ((if P then (1 : ℝ) else 0 : ℝ) : EReal) := by
  split <;> simp

/-- For real weights `r`, levels `v`, and a threshold `16 g + j`: the sixteen sums of the group, each times the table's entry, of
    which only the `j`-th is one, doubled, less the weights' sum, are the sum of the weights signed by the threshold. -/
theorem selected_sum {ι : Type} [Fintype ι] (r : ι → ℝ) (v : ι → ℕ) (g j : ℕ) (hj : j < 16) :
    ((2 : ℝ) : EReal) * (∑ l : Fin 16, (∑ q : ι, (if 16 * g + l.val ≤ v q then (1 : EReal) else 0) * (r q : EReal))
        * (if l.val = j then (1 : EReal) else 0)) - ∑ q : ι, (r q : EReal)
      = ∑ q : ι, (r q : EReal) * ((if 16 * g + j ≤ v q then (1 : ℝ) else -1 : ℝ) : EReal) := by
  simp only [pick_coe, ← EReal.coe_mul, sum_coe, ← EReal.coe_sub]
  congr 1
  have h : ∑ l : Fin 16, (∑ q : ι, (if 16 * g + l.val ≤ v q then (1 : ℝ) else 0) * r q) * (if l.val = j then (1 : ℝ) else 0)
      = ∑ q : ι, (if 16 * g + j ≤ v q then (1 : ℝ) else 0) * r q := by
    rw [Finset.sum_eq_single (⟨j, hj⟩ : Fin 16)]
    · simp
    · intro l _ hl
      rw [if_neg fun e => hl (Fin.ext e), mul_zero]
    · intro hn
      exact absurd (Finset.mem_univ _) hn
  rw [h, Finset.mul_sum, ← Finset.sum_sub_distrib]
  refine Finset.sum_congr rfl fun q _ => ?_
  split <;> ring

end Cert.Proof.Enc
-- ==== Proof.RefValue.lean ====
/- What the reference computes at an index: the sign of the sum, over the positions, of the position's weight times the
   weight of the level that its input word names. -/
module

public import proofs.«01_k».proof.Proof.Gen.ReferenceIdeal.Run
public import proofs.«01_k».proof.Proof.Gather
public import proofs.«01_k».proof.Proof.Levels
public import Idealize.ShloMosaic.Lib.Tactic.CleanTypes

@[expose] public section

noncomputable section

namespace Cert.Proof.Enc

open Cert.ReferenceIdeal Idealize.ShloMosaic Idealize.ShloMosaic.TcCoe Idealize.SL.Sem

/-- A level word, read signed, is in range: its wrap leaves it. -/
theorem wrap_level (w t : BitVec 32) :
    Scalar.select (IntOp.cmpi .slt (referenceLevel w) 0#32) t (referenceLevel w) = BitVec.ofNat 32 (level w) := by
  have h : (referenceLevel w).toNat < 2 ^ 31 := by
    have := level_lt w
    rw [referenceLevel_eq, BitVec.toNat_ofNat]; omega
  rw [wrap_word h, referenceLevel_eq]

/-- A level word passes the check against the 256 rows of the table. -/
theorem range_level (w : BitVec 32) :
    IntOp.andi (IntOp.cmpi .sge (BitVec.ofNat 32 (level w)) 0#32) (IntOp.cmpi .sle (BitVec.ofNat 32 (level w)) 255#32) = 1#1 := by
  have := level_lt w
  refine range_word ?_ (by decide)
  rw [BitVec.toNat_ofNat]
  show _ ≤ 255
  omega

/-- The encoding at row `b` and column `d`: one if the positions' weights, each times the weight of the level that the word at
    that position names, sum to more than zero, else minus one. -/
def encoding (x : (⟨3, ![32, 64, 64]⟩ : Shape).Idx → BitVec 32) (pos : (⟨2, ![4096, 1100]⟩ : Shape).Idx → EReal)
    (val : (⟨2, ![256, 1100]⟩ : Shape).Idx → EReal) (b : Fin 32) (d : Fin 1100) : EReal :=
  if 0 < ∑ p : Fin 4096, pos (ix2 p d) * val (ix2 ⟨level (x (ix3 b ⟨p.val / 64, by omega⟩ ⟨p.val % 64, by omega⟩)), level_lt _⟩ d)
  then 1 else Ideal.ofBits FTy.f32 3212836864#32

set_option maxRecDepth 16384 in
/-- The reference's result at `(b, d)` is the encoding. -/
theorem ref_apply (m : (ℓ : Loc nD τ sig) → Buf (Elt Ideal) ℓ) (c : Dev nD) (b : Fin 32) (d : Fin 1100) :
    Cert.ReferenceIdeal.Value.res_main_v18 m c (ix2 b d)
      = encoding (m (c.tc.loc main_arg0)) (m (c.tc.loc main_arg1)) (m (c.tc.loc main_arg2)) b d := by
  unfold Cert.ReferenceIdeal.Value.res_main_v18
  clean_types
  pointwise
  unfold encoding
  refine if_congr (Iff.of_eq (congrArg (0 < ·) (Finset.sum_congr rfl fun p _ => congrArg (HMul.hMul (α := EReal) (β := EReal) (γ := EReal) _) ?_))) rfl rfl
  refine (select_of_one (fold_ones _ fun q _ => ?_) _ _).trans ?_
  · show IntOp.andi (IntOp.cmpi .sge (Scalar.select (IntOp.cmpi .slt (referenceLevel _) 0#32) _ (referenceLevel _)) 0#32)
      (IntOp.cmpi .sle (Scalar.select (IntOp.cmpi .slt (referenceLevel _) 0#32) _ (referenceLevel _)) 255#32) = 1#1
    rw [wrap_level]
    exact range_level _
  · refine gather_rows _ _ _ b p d ⟨_, level_lt _⟩ ?_ (by norm_num)
    pointwise
    exact wrap_level _ _

end Cert.Proof.Enc
-- ==== Proof.KernelValue.lean ====
/- The kernel's result is the encoding: for thermometer level weights and finite position weights. -/
module

public import proofs.«01_k».proof.Proof.OutArray
public import proofs.«01_k».proof.Proof.Prefix
public import proofs.«01_k».proof.Proof.Tail
public import proofs.«01_k».proof.Proof.Equation
public import proofs.«01_k».proof.Proof.RefValue

@[expose] public section

noncomputable section

namespace Cert.Proof.Enc

open Cert.KernelIdeal Cert.KernelIdeal.Gen Idealize.ShloMosaic Idealize.ShloMosaic.TcCoe Idealize.SL.Sem

variable (m : (ℓ : Loc nD τ sig) → Buf (Elt Ideal) ℓ) (c : Dev nD)

/-- One as a single-precision pattern. -/
theorem lit_one : Ideal.ofBits .f32 0x3F800000#32 = (1 : EReal) := by
  rw [← EReal.coe_one]
  simp [Ideal.ofBits, Ideal.ieee, -EReal.coe_mul, -EReal.coe_neg, -EReal.coe_one]; norm_num
/-- Zero as a single-precision pattern. -/
theorem lit_zero : Ideal.ofBits .f32 0#32 = (0 : EReal) := by
  simp [Ideal.ofBits, Ideal.ieee]

/-- At a column's group and lane the table picks the threshold's place in its group of sixteen levels. -/
theorem table_at (d : Fin 1100) (l : Fin 16) :
    (V m c main_call0_cst (ix3 ⟨place d / 128, by have := place_lt d; omega⟩ l ⟨place d % 128, by omega⟩) : EReal)
      = if l.val = thr d.val % 16 then (1 : EReal) else 0 := by
  refine (table_apply m c _ l _).trans ?_
  rw [pick_facts d l]
  split
  · exact lit_one
  · exact lit_zero

/-- At a column's place the gathered positions are the column. -/
theorem pos_at (d : Fin 1100) (q : Fin 4096) (h : place d / 128 * 128 + place d % 128 < 2048) :
    (V m c main_call0_v2 (ix2 q ⟨place d / 128 * 128 + place d % 128, h⟩) : EReal) = m (c.tc.loc main_arg1) (ix2 q d) := by
  refine (posg_apply m c q _).trans (congrArg (fun e => (m (c.tc.loc main_arg1) (ix2 q e) : EReal)) (Fin.ext ?_))
  have hf := (place_facts d).2.2
  have e : (⟨place d / 128 * 128 + place d % 128, h⟩ : Fin 2048) = ⟨place d % 2048, Nat.mod_lt _ (by norm_num)⟩ := Fin.ext (by
    show place d / 128 * 128 + place d % 128 = place d % 2048
    have := place_lt d
    omega)
  show (lit0 _).toNat = d.val
  rw [e, hf, BitVec.toNat_ofNat]
  have := d.isLt
  omega

/-- The group's number in terms of the entries it reads: levels `v`, weights `r`, and a table that picks level `j`. -/
theorem groupNumber_eq (x : (⟨3, ![32, 1, 4096]⟩ : Shape).Idx → BitVec 32) (p : (⟨2, ![4096, 2048]⟩ : Shape).Idx → EReal)
    (w : (⟨3, ![16, 16, 128]⟩ : Shape).Idx → EReal) (g : Fin 16) (b : Fin 32) (k : Fin 128) (v : Fin 4096 → ℕ) (r : Fin 4096 → ℝ) (j : ℕ)
    (hx : ∀ q, level (x (ix3 b 0 q)) = v q) (hp : ∀ q, p (ix2 q ⟨g.val * 128 + k.val, by omega⟩) = (r q : EReal))
    (hw : ∀ l : Fin 16, w (ix3 g l k) = if l.val = j then (1 : EReal) else 0) :
    groupNumber x p w g b k
      = ((2 : ℝ) : EReal) * (∑ l : Fin 16, (∑ q : Fin 4096, (if 16 * g.val + l.val ≤ v q then (1 : EReal) else 0) * (r q : EReal))
        * (if l.val = j then (1 : EReal) else 0)) - ∑ q : Fin 4096, (r q : EReal) := by
  unfold groupNumber
  simp only [hx, hp, hw]

/-- The kernel's result at `(b, d)`, when the level weights are the thermometer's and the position weights are real. -/
theorem kernel_apply
    (hval : ∀ (n : Fin 256) (d : Fin 1100), (m (c.tc.loc main_arg2) (ix2 n d) : EReal) = ((if thr d.val ≤ n.val then (1 : ℝ) else -1 : ℝ) : EReal))
    (hpos : ∀ (p : Fin 4096) (d : Fin 1100), ∃ r : ℝ, (m (c.tc.loc main_arg1) (ix2 p d) : EReal) = (r : EReal))
    (b : Fin 32) (d : Fin 1100) :
    Pipeline.afterTail₀ cfgs (dats m) 0 (V0 m) [hostOps1] c main_v0 (ix2 b d)
      = encoding (m (c.tc.loc main_arg0)) (m (c.tc.loc main_arg1)) (m (c.tc.loc main_arg2)) b d := by
  choose r hr using hpos
  refine (result_apply m c b d).trans ?_
  rw [array_eq]
  unfold signs encoding
  refine if_congr (Iff.of_eq (congrArg (0 < ·) ?_)) rfl rfl
  have hg : place d / 128 = thr d.val / 16 := (place_facts d).2.1
  have key := selected_sum (fun q : Fin 4096 => r q d)
    (fun q : Fin 4096 => level (m (c.tc.loc main_arg0) (ix3 b ⟨q.val / 64, by omega⟩ ⟨q.val % 64, by omega⟩)))
    (thr d.val / 16) (thr d.val % 16) (Nat.mod_lt _ (by norm_num))
  rw [Nat.div_add_mod] at key
  refine Eq.trans ?_ (key.trans ?_)
  · rw [← hg]
    exact groupNumber_eq _ _ _ ⟨place d / 128, by have := place_lt d; omega⟩ b ⟨place d % 128, by omega⟩ _ (fun q => r q d) _
      (fun q => congrArg level (words_apply m c b q)) (fun q => (pos_at m c d q _).trans (hr q d)) (fun l => table_at m c d l)
  · refine Finset.sum_congr rfl fun q _ => ?_
    rw [hval, hr]

end Cert.Proof.Enc
-- ==== Proof.PreRead.lean ====
/- What the precondition says of an entry: the level weights are the thermometer's, the position weights are finite. -/
module

public import proofs.«01_k».proof.Defs
public import proofs.«01_k».proof.Proof.Levels
public import proofs.«01_k».proof.Proof.Words
public import proofs.«01_k».proof.Proof.Tables
public import Idealize.ShloMosaic.Lib.ReduceAll
public import Idealize.ShloMosaic.Lib.WordCmp

@[expose] public section

noncomputable section

namespace Cert.Proof.Enc

open Idealize.ShloMosaic

/-- The pattern of positive infinity is the top. -/
theorem lit_inf : Ideal.ofBits .f32 2139095040#32 = (⊤ : EReal) := by
  simp [Ideal.ofBits, Ideal.ieee]

/-- The column's turn on the circle, as a word: the column plus 180, its low eight bits. -/
theorem turn_word (d : Fin 1100) :
    IntOp.andi (IntOp.addi (BitVec.ofNat 32 d.val) 180#32) 255#32 = BitVec.ofNat 32 ((d.val + 180) % 256) := by
  apply BitVec.eq_of_toNat_eq
  show ((BitVec.ofNat 32 d.val + 180#32) &&& 255#32).toNat = _
  rw [BitVec.toNat_and, BitVec.toNat_add, show (255#32).toNat = 2 ^ 8 - 1 from rfl, Nat.and_two_pow_sub_one_eq_mod]
  simp only [BitVec.toNat_ofNat]
  have := d.isLt
  omega

/-- 256 less a level, as a word. -/
theorem rest_word (n : Fin 256) :
    IntOp.subi (256#32) (BitVec.ofNat 32 n.val) = BitVec.ofNat 32 (256 - n.val) := by
  apply BitVec.eq_of_toNat_eq
  show (256#32 - BitVec.ofNat 32 n.val).toNat = _
  rw [BitVec.toNat_sub]
  simp only [BitVec.toNat_ofNat]
  have := n.isLt
  omega

/-- The signed comparison of two small numbers as words is their comparison. -/
theorem sge_small {a b : Nat} (ha : a < 2 ^ 31) (hb : b < 2 ^ 31) :
    (IntOp.cmpi .sge (BitVec.ofNat 32 a) (BitVec.ofNat 32 b) = 1#1) ↔ b ≤ a := by
  rw [IntOp.cmpi_sge, toInt_small (by rw [BitVec.toNat_ofNat]; omega), toInt_small (by rw [BitVec.toNat_ofNat]; omega),
    BitVec.toNat_ofNat, BitVec.toNat_ofNat]
  omega

/-- The thermometer's bit at level `n`, column `d`: the level has reached the column's threshold. -/
theorem bit_iff (n : Fin 256) (d : Fin 1100) :
    (IntOp.ori
      (IntOp.cmpi .sge (IntOp.andi (IntOp.addi (BitVec.ofNat 32 d.val) 180#32) 255#32) (IntOp.subi (256#32) (BitVec.ofNat 32 n.val)))
      (IntOp.cmpi .eq (BitVec.ofNat 32 n.val) 255#32) = 1#1) ↔ thr d.val ≤ n.val := by
  rw [turn_word, rest_word, IntOp.ori_eq_one, sge_small (by omega) (by omega), IntOp.cmpi_eq]
  have e : (BitVec.ofNat 32 n.val = 255#32) ↔ n.val = 255 := by
    constructor
    · intro h
      have := congrArg BitVec.toNat h
      rw [BitVec.toNat_ofNat, show (255#32).toNat = 255 from rfl] at this
      omega
    · intro h
      rw [h]
  rw [e]
  unfold thr
  have := n.isLt
  split <;> omega

variable [Cert.Pre_inputs.Facts]

set_option maxRecDepth 16384 in
/-- Under the precondition the level weight at `(n, d)` is one from the column's threshold on, else minus one, and the position
    weight at `(p, d)` is a real number. -/
theorem pre_facts (x : IVec Cert.Pre_inputs.S32x64x64 32) (pos : FVec Ideal Cert.Pre_inputs.S4096x1100 .f32)
    (val : FVec Ideal Cert.Pre_inputs.S256x1100 .f32) (h : Cert.Pre_inputs.fn (F := Ideal) x pos val = fun _ => 1#1) :
    (∀ (n : Fin 256) (d : Fin 1100), val (ix2 n d) = ((if thr d.val ≤ n.val then (1 : ℝ) else -1 : ℝ) : EReal))
      ∧ ∀ (p : Fin 4096) (d : Fin 1100), ∃ r : ℝ, pos (ix2 p d) = (r : EReal) := by
  have h0 := congrFun h ix0
  dsimp only [Cert.Pre_inputs.fn, Cert.Pre_inputs.fn_part1] at h0
  rw [show ∀ (a b : IVec Cert.Pre_inputs.S_ 1), andi a b ix0 = IntOp.andi (a ix0) (b ix0) from fun _ _ => rfl, IntOp.andi_eq_one] at h0
  obtain ⟨h1, h2⟩ := h0
  haveI : Subsingleton Cert.Pre_inputs.S_.Idx := ⟨fun a b => by funext i; exact i.elim0⟩
  refine ⟨fun n d => ?_, fun p d => ?_⟩
  · have e := Host.reduce_andi_all _ _ _ _ _ h1 (ix2 n d)
    pointwise [Cert.Pre_inputs.fn_where] at e
    rw [WordCmp.ofBool_decide_eq_one_iff] at e
    rw [e]
    by_cases hb : thr d.val ≤ n.val
    · rw [if_pos hb, select_of_one ((bit_iff n d).mpr hb)]
      exact EReal.coe_one.symm
    · rw [if_neg hb, select_of_ne (fun q => hb ((bit_iff n d).mp q)), lit_neg_one]
  · have e := Host.reduce_andi_all _ _ _ _ _ h2 (ix2 p d)
    pointwise at e
    rw [WordCmp.ofBool_decide_eq_one_iff, lit_inf] at e
    generalize pos (ix2 p d) = y at e
    have e' : max (y : EReal) (-(y : EReal)) < ⊤ := e
    induction y using EReal.rec with
    | bot => simp at e'
    | top => simp at e'
    | coe r => exact ⟨r, rfl⟩

end Cert.Proof.Enc
-- ==== Proof.lean ====
/- The certificate's claims, proved: the three runs with their arguments unchanged, the idealization, and the equality of the two
   results over the extended reals under the precondition. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KernelValue
public import proofs.«01_k».proof.Proof.PreRead
public import Idealize.ShloMosaic.Lib.Claim
public import Idealize.ShloMosaic.Lib.Quiescent

@[expose] public section

noncomputable section

namespace Cert.Proof

open Idealize.ShloMosaic Idealize.ShloMosaic.TcCoe Idealize.SL.Sem

/-- The facts that the precondition's text states. -/
theorem pre_facts_witness : Cert.Pre_inputs.Facts where
  bcast_S_S256x1100 := by decide
  reducesTo_S256x1100_S_d0_1 := by decide
  h_S_ := by decide
  bcast_S_S4096x1100 := by decide
  reducesTo_S4096x1100_S_d0_1 := by decide

/-- The reference ends with its arguments unchanged and no counter raised: it has no counter. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems rfl r.2⟩) (Cert.ReferenceIdeal.Value.run m g)

/-- The kernel's run: its result array and its arguments. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v0)
            = Pipeline.afterTail₀ Cert.KernelIdeal.cfgs (Cert.KernelIdeal.Gen.dats m) 0 (Cert.KernelIdeal.Gen.V0 m) [Cert.KernelIdeal.Gen.hostOps1] c Cert.KernelIdeal.main_v0
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run _ _ _).mono (fun r h c =>
    ⟨(h.1 c).2 Cert.KernelIdeal.main_v0 (Pipeline.mem_restRefs_of Cert.KernelIdeal.main_v0 (by decide) (by decide)), h.2 c⟩)
    (θ_run_and (Cert.KernelIdeal.Gen.run_main m g) (Cert.KernelIdeal.Gen.unchanged m g))

section
variable [Cert.Pre_inputs.Facts]

/-- Under the precondition the two programs' results are equal. -/
theorem results_eq : Cert.algebraic_KernelIdeal_ReferenceIdeal_pre_inputs := by
  intro m g m' g' hpre hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v0,
    kernel_run m g, (θ_run _ _ _).mono (fun r h c => ⟨(h c).1.trans ?_, (h c).2⟩) (Cert.ReferenceIdeal.Value.run m' g')⟩
  obtain ⟨hval, hpos⟩ := Enc.pre_facts _ _ _ (hpre c)
  obtain ⟨h0, h1, h2⟩ := hagree c
  have key : ∀ (b : Fin 32) (d : Fin 1100), Cert.ReferenceIdeal.Value.res_main_v18 m' c (ix2 b d)
      = Pipeline.afterTail₀ Cert.KernelIdeal.cfgs (Cert.KernelIdeal.Gen.dats m) 0 (Cert.KernelIdeal.Gen.V0 m) [Cert.KernelIdeal.Gen.hostOps1] c Cert.KernelIdeal.main_v0 (ix2 b d) := by
    intro b d
    refine (Enc.ref_apply m' c b d).trans (Eq.trans ?_ (Enc.kernel_apply m c hval hpos b d).symm)
    rw [h0, h1, h2]
  funext y
  have hy : y = ix2 (n0 := 32) (n1 := 1100) (y 0) (y 1) := by
    funext a
    fin_cases a <;> rfl
  rw [hy]
  exact key (y 0) (y 1)

end

/-- Every claim of the certificate. -/
theorem claim : Cert.Claim :=
  ⟨Cert.Kernel.Gen.facts, Cert.KernelIdeal.Gen.facts, Cert.ReferenceIdeal.Gen.facts, pre_facts_witness,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    haveI := pre_facts_witness
    results_eq⟩

end Cert.Proof

end
